-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.Statement Cert.KernelIdeal.S512x256 .bf16

def algebraic_KernelIdeal_ReferenceIdeal_on_nondegenerate [hKernelIdeal : Cert.KernelIdeal.Facts] [hReferenceIdeal : Cert.ReferenceIdeal.Facts] [hOn_nondegenerate : Cert.On_nondegenerate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![16, 32, 4096, 1]⟩ : Shape).Idx, (Cert.On_nondegenerate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 32, 4096, 1]⟩ : Shape).Idx, (Cert.On_nondegenerate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v11) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_nondegenerate : Cert.On_nondegenerate.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_nondegenerate (hKernelIdeal := hKernelIdeal) (hReferenceIdeal := hReferenceIdeal) (hOn_nondegenerate := hOn_nondegenerate)
-- ==== On_nondegenerate.lean ====
abbrev S16x32x1x128 : Shape := ⟨4, ![16, 32, 1, 128]⟩
abbrev S16x8x4096x128 : Shape := ⟨4, ![16, 8, 4096, 128]⟩
abbrev S128x256 : Shape := ⟨2, ![128, 256]⟩
abbrev S_ : Shape := ⟨0, ![]⟩
abbrev S16x8x4096 : Shape := ⟨3, ![16, 8, 4096]⟩
abbrev S16x8x4096x256 : Shape := ⟨4, ![16, 8, 4096, 256]⟩
abbrev S16x8x4x4096 : Shape := ⟨4, ![16, 8, 4, 4096]⟩
abbrev S16x32x4096 : Shape := ⟨3, ![16, 32, 4096]⟩
abbrev S16x32x4096x1 : Shape := ⟨4, ![16, 32, 4096, 1]⟩

class Facts : Prop where
  reducesTo_S16x8x4096x128_S16x8x4096_d3 : S16x8x4096x128.ReducesTo [3] S16x8x4096
  h_S_ : 0 < S_.numel
  bcast_S_S16x8x4096 : S_.BroadcastsInDim S16x8x4096 (![] : Fin 0 → Fin S16x8x4096.rank)
  bcast_S_S16x8x4096x256 : S_.BroadcastsInDim S16x8x4096x256 (![] : Fin 0 → Fin S16x8x4096x256.rank)
  reducesTo_S16x8x4096x256_S16x8x4096_d3 : S16x8x4096x256.ReducesTo [3] S16x8x4096
  bcast_S16x8x4096_S16x8x4x4096_0_1_3 : S16x8x4096.BroadcastsInDim S16x8x4x4096 (![0, 1, 3] : Fin 3 → Fin S16x8x4x4096.rank)
  shapeCasts_S16x8x4x4096_S16x32x4096 : S16x8x4x4096.ShapeCasts S16x32x4096
  bcast_S16x32x4096_S16x32x4096x1_0_1_2 : S16x32x4096.BroadcastsInDim S16x32x4096x1 (![0, 1, 2] : Fin 3 → Fin S16x32x4096x1.rank)
  dot_S16x8x4096x128_S128x256_S16x8x4096x256_3_0_012_1_n_n_wf : DotDims.WF S16x8x4096x128 S128x256 S16x8x4096x256 [3] [0] [0, 1, 2] [1] [] []

variable [Facts]

def dot_S16x8x4096x128_S128x256_S16x8x4096x256_3_0_012_1_n_n : DotDims S16x8x4096x128 S128x256 S16x8x4096x256 where
  lhsContracting := [3]
  rhsContracting := [0]
  lhsNonContracting := [0, 1, 2]
  rhsNonContracting := [1]
  lhsBatch := []
  rhsBatch := []
  wf := dot_S16x8x4096x128_S128x256_S16x8x4096x256_3_0_012_1_n_n_wf
def fn {F : FTy → Type} [FloatOps F] (main_arg0 : FVec F S16x32x1x128 .f32) (main_arg1 : FVec F S16x8x4096x128 .f32) (main_arg2 : FVec F S128x256 .f32) : IVec S16x32x4096x1 1 :=
  let main_v0 : FVec F S16x8x4096x128 .f32 := mulf main_arg1 main_arg1
  let main_cst : FVec F S_ .f32 := constant S_ .f32 0x00000000#32
  let main_v1 : FVec F S16x8x4096 .f32 := (fun x v => Host.reduceAdd x v reducesTo_S16x8x4096x128_S16x8x4096_d3 h_S_) main_v0 main_cst
  let main_v2 : FVec F S16x8x4096x256 .f32 := (fun l r => Host.dotGeneral dot_S16x8x4096x128_S128x256_S16x8x4096x256_3_0_012_1_n_n none l r) main_arg1 main_arg2
  let main_cst_0 : FVec F S_ .f32 := constant S_ .f32 0x7F800000#32
  let main_v3 : FVec F S16x8x4096 .f32 := broadcastInDim S16x8x4096 ![] bcast_S_S16x8x4096 main_cst_0
  let main_v4 : IVec S16x8x4096 1 := cmpf .olt main_v1 main_v3
  let main_cst_1 : FVec F S_ .f32 := constant S_ .f32 0x00000000#32
  let main_v5 : FVec F S16x8x4096 .f32 := broadcastInDim S16x8x4096 ![] bcast_S_S16x8x4096 main_cst_1
  let main_v6 : IVec S16x8x4096 1 := cmpf .oeq main_v1 main_v5
  let main_cst_2 : FVec F S_ .f32 := constant S_ .f32 0x00000000#32
  let main_v7 : FVec F S16x8x4096x256 .f32 := broadcastInDim S16x8x4096x256 ![] bcast_S_S16x8x4096x256 main_cst_2
  let main_v8 : IVec S16x8x4096x256 1 := cmpf .une main_v2 main_v7
  let main_c : IVec S_ 1 := constantI S_ 1 1#1
  let main_v9 : IVec S16x8x4096 1 := (fun x v => Host.reduce IntOp.andi x v reducesTo_S16x8x4096x256_S16x8x4096_d3 h_S_) main_v8 main_c
  let main_v10 : IVec S16x8x4096 1 := ori main_v6 main_v9
  let main_v11 : IVec S16x8x4096 1 := andi main_v4 main_v10
  let main_v12 : IVec S16x8x4x4096 1 := broadcastInDim S16x8x4x4096 ![0, 1, 3] bcast_S16x8x4096_S16x8x4x4096_0_1_3 main_v11
  let main_v13 : IVec S16x32x4096 1 := shapeCast S16x32x4096 main_v12 shapeCasts_S16x8x4x4096_S16x32x4096
  let main_v14 : IVec S16x32x4096x1 1 := broadcastInDim S16x32x4096x1 ![0, 1, 2] bcast_S16x32x4096_S16x32x4096x1_0_1_2 main_v13
  main_v14
-- ==== Kernel.lean ====
abbrev S16x32x1x128 : Shape := ⟨4, ![16, 32, 1, 128]⟩
abbrev S16x8x4096x128 : Shape := ⟨4, ![16, 8, 4096, 128]⟩
abbrev S128x256 : Shape := ⟨2, ![128, 256]⟩
abbrev S16x8x4x128 : Shape := ⟨4, ![16, 8, 4, 128]⟩
abbrev S16x8x4x4096 : Shape := ⟨4, ![16, 8, 4, 4096]⟩
abbrev S1x8x4x128 : Shape := ⟨4, ![1, 8, 4, 128]⟩
abbrev S1x8x4096x128 : Shape := ⟨4, ![1, 8, 4096, 128]⟩
abbrev S1x8x4x4096 : Shape := ⟨4, ![1, 8, 4, 4096]⟩
abbrev S1x1x4x128 : Shape := ⟨4, ![1, 1, 4, 128]⟩
abbrev S4x128 : Shape := ⟨2, ![4, 128]⟩
abbrev S4x256 : Shape := ⟨2, ![4, 256]⟩
abbrev S1x1x512x128 : Shape := ⟨4, ![1, 1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S4x512 : Shape := ⟨2, ![4, 512]⟩
abbrev S1x1x4x512 : Shape := ⟨4, ![1, 1, 4, 512]⟩
abbrev S16x32x4096x1 : Shape := ⟨4, ![16, 32, 4096, 1]⟩

abbrev nBuf : Space → Nat
  | .hbm => 6
  | .vmem => 7
  | .smem => 0
  | _ => 0

abbrev bufTy : (tb : Table) → Fin (tcTables nBuf tb) → BufTy
  | .hbm, ⟨0, _⟩ => ⟨S16x32x1x128, .f32⟩
  | .hbm, ⟨1, _⟩ => ⟨S16x8x4096x128, .f32⟩
  | .hbm, ⟨2, _⟩ => ⟨S128x256, .f32⟩
  | .hbm, ⟨3, _⟩ => ⟨S16x8x4x128, .f32⟩
  | .hbm, ⟨4, _⟩ => ⟨S16x8x4x4096, .f32⟩
  | .hbm, ⟨5, _⟩ => ⟨S16x32x4096x1, .f32⟩
  | .local _ .vmem, ⟨0, _⟩ => ⟨S1x8x4x128, .f32⟩
  | .local _ .vmem, ⟨1, _⟩ => ⟨S1x8x4x128, .f32⟩
  | .local _ .vmem, ⟨2, _⟩ => ⟨S1x8x4096x128, .f32⟩
  | .local _ .vmem, ⟨3, _⟩ => ⟨S1x8x4096x128, .f32⟩
  | .local _ .vmem, ⟨4, _⟩ => ⟨S128x256, .f32⟩
  | .local _ .vmem, ⟨5, _⟩ => ⟨S1x8x4x4096, .f32⟩
  | .local _ .vmem, ⟨6, _⟩ => ⟨S1x8x4x4096, .f32⟩
  | _, _ => ⟨S16x32x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨2, ![16, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F]
-- ==== ReferenceIdeal.lean ====
abbrev S16x32x1x128 : Shape := ⟨4, ![16, 32, 1, 128]⟩
abbrev S16x8x4096x128 : Shape := ⟨4, ![16, 8, 4096, 128]⟩
abbrev S128x256 : Shape := ⟨2, ![128, 256]⟩
abbrev S16x8x4x4096x128 : Shape := ⟨5, ![16, 8, 4, 4096, 128]⟩
abbrev S16x32x4096x128 : Shape := ⟨4, ![16, 32, 4096, 128]⟩
abbrev S16x32x1x256 : Shape := ⟨4, ![16, 32, 1, 256]⟩
abbrev S16x32x4096x256 : Shape := ⟨4, ![16, 32, 4096, 256]⟩
abbrev S_ : Shape := ⟨0, ![]⟩
abbrev S16x32x4096 : Shape := ⟨3, ![16, 32, 4096]⟩
abbrev S16x32x1x4096 : Shape := ⟨4, ![16, 32, 1, 4096]⟩
abbrev S16x32x4096x1 : Shape := ⟨4, ![16, 32, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x32x1x128, .f32⟩
  | .hbm, ⟨1, _⟩ => ⟨S16x8x4096x128, .f32⟩
  | .hbm, ⟨2, _⟩ => ⟨S128x256, .f32⟩
  | .hbm, ⟨3, _⟩ => ⟨S16x8x4x4096x128, .f32⟩
  | .hbm, ⟨4, _⟩ => ⟨S16x32x4096x128, .f32⟩
  | .hbm, ⟨5, _⟩ => ⟨S16x32x1x256, .f32⟩
  | .hbm, ⟨6, _⟩ => ⟨S16x32x4096x256, .f32⟩
  | .hbm, ⟨7, _⟩ => ⟨S16x32x4096x256, .f32⟩
  | .hbm, ⟨8, _⟩ => ⟨S16x32x4096x128, .f32⟩
  | .hbm, ⟨9, _⟩ => ⟨S_, .f32⟩
  | .hbm, ⟨10, _⟩ => ⟨S16x32x4096, .f32⟩
  | .hbm, ⟨11, _⟩ => ⟨S16x32x4096, .f32⟩
  | .hbm, ⟨12, _⟩ => ⟨S16x32x1x4096, .f32⟩
  | .hbm, ⟨13, _⟩ => ⟨S16x32x1x4096, .f32⟩
  | .hbm, ⟨14, _⟩ => ⟨S16x32x1x4096, .f32⟩
  | .hbm, ⟨15, _⟩ => ⟨S_, .f32⟩
  | .hbm, ⟨16, _⟩ => ⟨S16x32x1x4096, .f32⟩
  | .hbm, ⟨17, _⟩ => ⟨S16x32x1x4096, .f32⟩
  | .hbm, ⟨18, _⟩ => ⟨S16x32x4096x1, .f32⟩
  | _, _ => ⟨S16x32x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Score.lean ====
/-
  The mathematics of one score. A score is a function of one query row, one key row and the projection matrix. The
  kernel's form multiplies the scale into the projected query and the key row's length into the signs before it sums; the
  reference's form sums the signed projections first and multiplies by the length and the scale afterwards. The two agree
  on the extended reals for a key row of finite length whose projections are all nonzero, and for the zero key row.
-/
module

public import Idealize.ShloMosaic.Lib.Pointwise

@[expose] public section

noncomputable section

namespace Cert.Sketch

open Idealize.ShloMosaic

/-- A row of 128 numbers. -/
abbrev Row := Fin 128 → EReal
/-- The projection matrix, 128 by 256. -/
abbrev Proj := Fin 128 → Fin 256 → EReal

/-- Component `s` of a row's projection. -/
def proj (x : Row) (p : Proj) (s : Fin 256) : EReal := ∑ d, x d * p d s

/-- The sum of a row's squares. -/
def sumSq (x : Row) : EReal := ∑ d, x d * x d

/-- The score's scale, the number both programs print. -/
def scale : EReal := Ideal.ofBits .f32 0x3BA06C99#32

/-- A score as the kernel forms it. -/
def kernelScore (q k : Row) (p : Proj) : EReal :=
  ∑ s, (proj q p s * scale) * ((if proj k p s < 0 then -1 else 1) * (sumSq k * Ideal.rsqrt (sumSq k)))

/-- A score as the reference forms it. -/
def refScore (q k : Row) (p : Proj) : EReal :=
  (∑ s, proj q p s * Ideal.sign (proj k p s)) * Ideal.sqrt (sumSq k) * scale

/-- The key rows of the claim: finite length, and either length zero or no projection that is zero. -/
def Nondegenerate (k : Row) (p : Proj) : Prop :=
  sumSq k < ⊤ ∧ (sumSq k = 0 ∨ ∀ s, proj k p s ≠ 0)

theorem scale_eq : scale = ((10513561 * (2 : ℝ) ^ (-31 : ℤ) : ℝ) : EReal) := by
  simp [scale, Ideal.ofBits, Ideal.ieee, -EReal.coe_mul]

theorem scale_nonneg : 0 ≤ scale := by
  rw [scale_eq]; exact EReal.coe_nonneg.mpr (by positivity)

theorem scale_ne_top : scale ≠ ⊤ := by
  rw [scale_eq]; exact EReal.coe_ne_top _

/-- A square on the extended reals is not negative. -/
theorem mul_self_nonneg (a : EReal) : 0 ≤ a * a := by
  rcases le_total 0 a with h | h
  · exact mul_nonneg h h
  · exact EReal.mul_nonneg_iff.mpr (.inr ⟨h, h⟩)

theorem sumSq_nonneg (x : Row) : 0 ≤ sumSq x := Finset.sum_nonneg fun _ _ => mul_self_nonneg _

/-- A factor that is finite and not negative comes out of a sum of extended reals. -/
theorem sum_mul_of_nonneg {ι : Type} (t : Finset ι) (f : ι → EReal) {a : EReal} (h0 : 0 ≤ a) (ht : a ≠ ⊤) :
    ∑ i ∈ t, f i * a = (∑ i ∈ t, f i) * a := by
  induction t using Finset.cons_induction with
  | empty => simp
  | cons i t hi ih => rw [Finset.sum_cons, Finset.sum_cons, ih, EReal.right_distrib_of_nonneg_of_ne_top h0 ht]

/-- A finite nonnegative number times its reciprocal square root is its square root; at zero both are zero. -/
theorem mul_rsqrt {x : EReal} (h0 : 0 ≤ x) (ht : x < ⊤) :
    x * Ideal.rsqrt x = Ideal.sqrt x ∧ 0 ≤ Ideal.sqrt x ∧ Ideal.sqrt x ≠ ⊤ := by
  induction x using EReal.rec with
  | bot => exact absurd h0 (not_le.mpr EReal.bot_lt_zero)
  | top => exact absurd ht (lt_irrefl _)
  | coe r =>
    have hr : 0 ≤ r := EReal.coe_nonneg.mp h0
    rw [Ideal.sqrt_coe, Ideal.rsqrt_coe, if_neg hr.not_gt, if_neg hr.not_gt]
    refine ⟨?_, EReal.coe_nonneg.mpr (Real.sqrt_nonneg r), EReal.coe_ne_top _⟩
    by_cases h : r = 0
    · simp [h]
    · rw [if_neg h, ← EReal.coe_mul, ← div_eq_mul_inv, Real.div_sqrt]

/-- At a number that is not zero the sign is read off the comparison with zero alone. -/
theorem sign_of_ne_zero {x : EReal} (h : x ≠ 0) : Ideal.sign x = if x < 0 then -1 else 1 := by
  split
  next hn => exact Ideal.sign_of_neg hn
  next hn => exact Ideal.sign_of_pos (lt_of_le_of_ne (not_lt.mp hn) h.symm)

/-- THE EQUATION: the two forms of a score agree at a nondegenerate key row. -/
theorem kernelScore_eq_refScore (q k : Row) (p : Proj) (hk : Nondegenerate k p) : kernelScore q k p = refScore q k p := by
  obtain ⟨hfin, hdeg⟩ := hk
  obtain ⟨hs, h0, ht⟩ := mul_rsqrt (sumSq_nonneg k) hfin
  unfold kernelScore refScore
  rw [hs]
  rcases hdeg with hz | hnz
  · rw [hz, show Ideal.sqrt 0 = 0 by rw [← EReal.coe_zero, Ideal.sqrt_coe]; simp]
    simp
  · rw [mul_assoc, ← sum_mul_of_nonneg _ _ (mul_nonneg h0 scale_nonneg)
      (EReal.mul_ne_top _ _ |>.mpr ⟨.inl (ne_of_gt (lt_of_lt_of_le EReal.bot_lt_zero h0)), .inl h0,
        .inl ht, .inr scale_ne_top⟩)]
    refine Finset.sum_congr rfl fun s _ => ?_
    rw [sign_of_ne_zero (hnz s)]
    ac_rfl

end Cert.Sketch

end
-- ==== Proof.Tile.lean ====
/-
  One tile of the kernel's output: the scores of one key head's four query rows against 512 of its key rows. The kernel
  stores 64 of them per grid point; here the tile is written once, as a function of the three things it reads (the
  projection matrix, the head's query rows, the 512 key rows), and read element by element at the extended reals.
-/
module

public import proofs.«01_k».proof.Proof.Gen.KernelIdeal.Skeleton
public import proofs.«01_k».proof.Proof.Score

@[expose] public section

noncomputable section

namespace Cert.Sketch

open Idealize.ShloMosaic Cert.KernelIdeal Cert.KernelIdeal.Gen

/-- The tile stored for query rows `q` and key rows `k` under the projection matrix `p`. -/
def tile {F : FTy → Type} [FloatOps F] (p : Vec F S128x256 .f32) (q : Vec F S1x1x4x128 .f32) (k : Vec F S1x1x512x128 .f32) :
    FVec F S1x1x4x512 .f32 :=
  k0_pay18 (k0_pay3 p q) (k0_pay12 k) (k0_pay13 p k)

/-- An element of the tile is the kernel's score of one query row and one key row. -/
theorem tile_apply (p : Vec Ideal S128x256 .f32) (q : Vec Ideal S1x1x4x128 .f32) (k : Vec Ideal S1x1x512x128 .f32)
    (g : Fin 4) (l : Fin 512) :
    tile p q k (ix4 0 0 g l)
      = kernelScore (fun d => q (ix4 0 0 g d)) (fun d => k (ix4 0 0 l d)) (fun d s => p (ix2 d s)) := by
  pointwise [tile, k0_pay18, k0_pay3, k0_pay12, k0_pay13]
  simp only [kernelScore, proj, sumSq, scale, Ideal.ofBits_neg_one_bf16, EReal.coe_neg, EReal.coe_one]

end Cert.Sketch

end
-- ==== Proof.Block.lean ====
/-
  What one grid point leaves in its output block. The body stores 64 tiles, one for each of 8 chunks of 512 key rows and
  each of 8 key heads; together they hold, at head `h`, query row `g` and key row `r`, the kernel's score of those rows.
-/
module

public import proofs.«01_k».proof.Proof.Tile
public import proofs.«01_k».proof.Proof.Gen.KernelIdeal.Frame
public import Idealize.ShloMosaic.Lib.Pipeline.Value

@[expose] public section

noncomputable section

namespace Cert.Sketch

open Idealize.ShloMosaic Cert.KernelIdeal Cert.KernelIdeal.Gen

section Stores
variable {F : FTy → Type} [FloatOps F]

/-- The part of the output block that head `h`'s tile for chunk `c` fills. -/
abbrev outRect (c h : Fin 8) : Rect S1x8x4x4096 :=
  Rect.unit (s := S1x8x4x4096) ![0, h, 0, 512 * c] S1x1x4x512.size (by
    have := h.isLt; have := c.isLt
    intro a; match a with
    | ⟨0, _⟩ => exact Nat.le_refl _
    | ⟨1, _⟩ => show h.val + 1 ≤ 8; omega
    | ⟨2, _⟩ => exact Nat.le_refl _
    | ⟨3, _⟩ => show 512 * c.val + 512 ≤ 4096; omega)

/-- The part of the key block that tile reads. -/
abbrev keyRect (c h : Fin 8) : Rect S1x8x4096x128 :=
  Rect.unit (s := S1x8x4096x128) ![0, h, 512 * c, 0] S1x1x512x128.size (by
    have := h.isLt; have := c.isLt
    intro a; match a with
    | ⟨0, _⟩ => exact Nat.le_refl _
    | ⟨1, _⟩ => show h.val + 1 ≤ 8; omega
    | ⟨2, _⟩ => show 512 * c.val + 512 ≤ 4096; omega
    | ⟨3, _⟩ => exact Nat.le_refl _)

/-- The part of the query block that tile reads. -/
abbrev queryRect (h : Fin 8) : Rect S1x8x4x128 :=
  Rect.unit (s := S1x8x4x128) ![0, h, 0, 0] S1x1x4x128.size (by
    have := h.isLt
    intro a; match a with
    | ⟨0, _⟩ => exact Nat.le_refl _
    | ⟨1, _⟩ => show h.val + 1 ≤ 8; omega
    | ⟨2, _⟩ => exact Nat.le_refl _
    | ⟨3, _⟩ => exact Nat.le_refl _)

/-- The store of head `h`'s tile for chunk `c`. -/
def store (x0 : Vec F S1x8x4x128 .f32) (x1 : Vec F S1x8x4096x128 .f32) (x2 : Vec F S128x256 .f32) (c h : Fin 8) :
    View.Piece (Elt F) S1x8x4x4096 .f32 :=
  ⟨outRect c h, tile (View.ld x2 r0_0) (View.ld x0 (queryRect h)) (View.ld x1 (keyRect c h))⟩

/-- The body's 64 stores, last first: the chunks from the last to the first, and in each the heads likewise. -/
theorem out_eq_stores (x0 : Vec F S1x8x4x128 .f32) (x1 : Vec F S1x8x4096x128 .f32) (x2 : Vec F S128x256 .f32) :
    out0_3 x0 x1 x2
      = View.canon (([7, 6, 5, 4, 3, 2, 1, 0] : List (Fin 8)).flatMap fun c =>
          ([7, 6, 5, 4, 3, 2, 1, 0] : List (Fin 8)).map fun h => store x0 x1 x2 c h) := by
  unfold out0_3
  rfl

end Stores

/-- What the output block holds at `i`: the kernel's score of the query row and the key row that `i` names. -/
def blockScore (x0 : Vec Ideal S1x8x4x128 .f32) (x1 : Vec Ideal S1x8x4096x128 .f32) (x2 : Vec Ideal S128x256 .f32) :
    Vec Ideal S1x8x4x4096 .f32 := fun i =>
  kernelScore (fun d => x0 (ix4 0 (i 1) (i 2) d)) (fun d => x1 (ix4 0 (i 1) (i 3) d)) (fun d s => x2 (ix2 d s))

/-- Where an element of a tile lies in the output block. -/
theorem outRect_emb (c h : Fin 8) (g : Fin 4) (l : Fin 512) :
    (outRect c h).emb (ix4 0 0 g l) = ix4 0 h g ⟨512 * c.val + l.val, by omega⟩ := by
  refine funext fun a => Fin.ext ?_
  rw [Rect.emb_apply]
  match a with
  | ⟨0, _⟩ => rfl
  | ⟨1, _⟩ => rfl
  | ⟨2, _⟩ => show 0 + 1 * g.val = g.val; omega
  | ⟨3, _⟩ => show 512 * c.val + 1 * l.val = 512 * c.val + l.val; omega

/-- Every store holds its part of the block's scores. -/
theorem store_apply (x0 : Vec Ideal S1x8x4x128 .f32) (x1 : Vec Ideal S1x8x4096x128 .f32) (x2 : Vec Ideal S128x256 .f32)
    (c h : Fin 8) (x : S1x1x4x512.Idx) :
    (store x0 x1 x2 c h).2 x = blockScore x0 x1 x2 ((outRect c h).emb x) := by
  obtain ⟨a, b, g, l, rfl⟩ : ∃ a b g l, x = ix4 a b g l := ⟨x 0, x 1, x 2, x 3, eq_ix4 x⟩
  obtain rfl : a = 0 := Subsingleton.elim _ _
  obtain rfl : b = 0 := Subsingleton.elim _ _
  refine (tile_apply _ _ _ g l).trans ?_
  rw [outRect_emb, blockScore]
  pointwise

/-- The 64 stores fill the block. -/
theorem stores_cover (x0 : Vec Ideal S1x8x4x128 .f32) (x1 : Vec Ideal S1x8x4096x128 .f32) (x2 : Vec Ideal S128x256 .f32)
    (y : S1x8x4x4096.Idx) : ∃ c h : Fin 8, y ∈ (store x0 x1 x2 c h).1.set := by
  have h0 : (y 0).val < 1 := (y 0).isLt
  have h1 : (y 1).val < 8 := (y 1).isLt
  have h2 : (y 2).val < 4 := (y 2).isLt
  have h3 : (y 3).val < 4096 := (y 3).isLt
  refine ⟨⟨(y 3).val / 512, by omega⟩, ⟨(y 1).val, h1⟩, ?_⟩
  show y ∈ (outRect _ _).set
  rw [Rect.mem_set_unit]
  intro a
  match a with
  | ⟨0, _⟩ => exact ⟨Nat.zero_le _, show (y 0).val < 0 + 1 by omega⟩
  | ⟨1, _⟩ => exact ⟨Nat.le_refl _, show (y 1).val < (y 1).val + 1 by omega⟩
  | ⟨2, _⟩ => exact ⟨Nat.zero_le _, show (y 2).val < 0 + 4 by omega⟩
  | ⟨3, _⟩ => exact ⟨show 512 * ((y 3).val / 512) ≤ (y 3).val by omega, show (y 3).val < 512 * ((y 3).val / 512) + 512 by omega⟩

/-- WHAT A GRID POINT LEAVES: the output block is the block of scores. -/
theorem out_eq_blockScore (x0 : Vec Ideal S1x8x4x128 .f32) (x1 : Vec Ideal S1x8x4096x128 .f32) (x2 : Vec Ideal S128x256 .f32) :
    out0_3 x0 x1 x2 = blockScore x0 x1 x2 := by
  have all : ∀ j : Fin 8, j ∈ ([7, 6, 5, 4, 3, 2, 1, 0] : List (Fin 8)) := by decide
  rw [out_eq_stores]
  refine funext fun y => View.canon_apply_of_pieces _ _ (fun pc hpc => ?_) y ?_
  · obtain ⟨c, -, hc⟩ := List.mem_flatMap.mp hpc
    obtain ⟨h, -, rfl⟩ := List.mem_map.mp hc
    exact store_apply x0 x1 x2 c h
  · obtain ⟨c, h, hy⟩ := stores_cover x0 x1 x2 y
    exact ⟨_, List.mem_flatMap.mpr ⟨c, all c, List.mem_map.mpr ⟨h, all h, rfl⟩⟩, hy⟩

end Cert.Sketch

end
-- ==== Proof.Array.lean ====
/-
  What the kernel's result array holds after the run. Grid point `t` writes back batch `t`'s scores; the 16 points fill the
  array, so it holds every batch's scores. Around the grid the host reshapes: 32 query heads become 8 key heads of 4
  query rows each before it, and back after it.
-/
module

public import proofs.«01_k».proof.Proof.Block
public import Idealize.ShloMosaic.Lib.Pipeline.ValueKit

@[expose] public section

noncomputable section

namespace Cert.Sketch

open Idealize.ShloMosaic Idealize.ShloMosaic.TcCoe Idealize.SL.Sem Cert.KernelIdeal Cert.KernelIdeal.Gen
open Idealize.ShloMosaic.Pipeline (Dat)

/-- Every batch's scores: at batch, key head, query row and key row. -/
def allScores (q : Vec Ideal S16x8x4x128 .f32) (k : Vec Ideal S16x8x4096x128 .f32) (p : Vec Ideal S128x256 .f32) :
    Vec Ideal S16x8x4x4096 .f32 := fun i =>
  kernelScore (fun d => q (ix4 (i 0) (i 1) (i 2) d)) (fun d => k (ix4 (i 0) (i 1) (i 3) d)) (fun d s => p (ix2 d s))

/-- The blocks of grid point `t`: the queries', the keys' and the result's are batch `t`'s, the matrix's is the whole. -/
theorem index_eq : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = 0 ∧ win0_2.index t 1 = 0)
    ∧ (win0_3.index t 0 = t.val ∧ win0_3.index t 1 = 0 ∧ win0_3.index t 2 = 0 ∧ win0_3.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = 0 ∧ win0_2.index t 1 = 0)
    ∧ (win0_3.index t 0 = t.val ∧ win0_3.index t 1 = 0 ∧ win0_3.index t 2 = 0 ∧ win0_3.index t 3 = 0))

/-- The scores between the two reshapes, read at a query head. -/
theorem reshaped_apply (q : Vec Ideal S16x32x1x128 .f32) (k : Vec Ideal S16x8x4096x128 .f32) (p : Vec Ideal S128x256 .f32)
    (b : Fin 16) (h : Fin 32) (r : Fin 4096) :
    shapeCast S16x32x4096x1 (allScores (shapeCast S16x8x4x128 q shapeCasts_S16x32x1x128_S16x8x4x128) k p)
        shapeCasts_S16x8x4x4096_S16x32x4096x1 (ix4 b h r 0)
      = kernelScore (fun d => q (ix4 b h 0 d)) (fun d => k (ix4 b ⟨h.val / 4, by omega⟩ r d)) (fun d s => p (ix2 d s)) := by
  pointwise [allScores]

variable (m : (ℓ : Loc nD τ sig) → Buf (Elt Ideal) ℓ)

/-- The result array of the grid holds every batch's scores. -/
theorem final (c : Dev nD) :
    (dats m 0 c).arrAt 3 cfg0.N = allScores (V m c main_v0) (V m c main_arg1) (V m c main_arg2) := by
  refine (dats m 0 c).arrAt_eq_of_covers 3 _ (by decide +kernel) fun t hf y => ?_
  blk_simp
  rw [after0_3, out_eq_blockScore]
  refine congr (congr (congrArg kernelScore (funext fun d => ?_)) (funext fun d => ?_)) (funext fun d => funext fun s => ?_)
  · blk_ext [iblk, index_eq t]
  · blk_ext [iblk, index_eq t]
  · blk_ext [iblk, index_eq t]

/-- The query rows as the grid finds them. -/
theorem entry_query (c : Dev nD) :
    V m c main_v0 = shapeCast S16x8x4x128 (m ((c : Thread nD τ).loc main_arg0)) shapeCasts_S16x32x1x128_S16x8x4x128 := by
  simp only [V, V0, hostOps0, List.flatten_cons, List.flatten_nil, List.append_nil, StableHlo.after_cons, StableHlo.after_nil,
    StableHlo.reshape_result']
  rfl

/-- The result of the program: the grid's result array reshaped. -/
theorem result (c : Dev nD) :
    Pipeline.afterTail₀ cfgs (dats m) 0 (V0 m) [hostOps1] c main_v2
      = shapeCast S16x32x4096x1 ((dats m 0 c).arrAt 3 cfg0.N) shapeCasts_S16x8x4x4096_S16x32x4096x1 := by
  unfold Pipeline.afterTail₀
  simp only [hostOps1, List.flatten_cons, List.flatten_nil, List.append_nil, StableHlo.after_cons, StableHlo.after_nil, StableHlo.reshape_result']
  exact congrArg (fun v => shapeCast S16x32x4096x1 v shapeCasts_S16x8x4x4096_S16x32x4096x1)
    (Pipeline.withArrays_arr spec0 (by decide) c (V0 m c) (fun w => (dats m 0 c).arrAt w cfg0.N) 3)

/-- THE KERNEL'S RESULT at batch `b`, query head `h` and key row `r`: the score of the head's query row and row `r` of the
    key head it shares with three others. -/
theorem result_apply (c : Dev nD) (b : Fin 16) (h : Fin 32) (r : Fin 4096) :
    Pipeline.afterTail₀ cfgs (dats m) 0 (V0 m) [hostOps1] c main_v2 (ix4 b h r 0)
      = kernelScore (fun d => m ((c : Thread nD τ).loc main_arg0) (ix4 b h 0 d))
          (fun d => m ((c : Thread nD τ).loc main_arg1) (ix4 b ⟨h.val / 4, by omega⟩ r d))
          (fun d s => m ((c : Thread nD τ).loc main_arg2) (ix2 d s)) := by
  rw [result, final, entry_query, V_main_arg1, V_main_arg2]
  exact reshaped_apply _ _ _ b h r

end Cert.Sketch

end
-- ==== Proof.Reference.lean ====
/-
  The reference and the claim's mask, read at one element: the reference's result is the reference's form of the score of
  the same two rows, and where the mask is set the key row is nondegenerate.
-/
module

public import proofs.«01_k».proof.Proof.Score
public import proofs.«01_k».proof.Proof.Gen.On_nondegenerate
public import proofs.«01_k».proof.Proof.Gen.ReferenceIdeal.Read
public import Idealize.ShloMosaic.Lib.Affine

@[expose] public section

noncomputable section

namespace Cert.Sketch

open Idealize.ShloMosaic

section Result
open Cert.ReferenceIdeal Cert.ReferenceIdeal.Read

/-- THE REFERENCE'S RESULT at batch `b`, query head `h` and key row `r`. -/
theorem reference_apply (q : Vec Ideal S16x32x1x128 .f32) (k : Vec Ideal S16x8x4096x128 .f32) (p : Vec Ideal S128x256 .f32)
    (b : Fin 16) (h : Fin 32) (r : Fin 4096) :
    val_main_v11 (F := Ideal) q k p (ix4 b h r 0)
      = refScore (fun d => q (ix4 b h 0 d)) (fun d => k (ix4 b ⟨h.val / 4, by omega⟩ r d)) (fun d s => p (ix2 d s)) := by
  pointwise [val_main_v11, val_main_v10, val_main_v9, val_main_v8, val_main_v7, val_main_v6, val_main_v5, val_main_v4,
    val_main_v3, val_main_v2, val_main_v1, val_main_v0, val_main_cst, val_main_call0_v1, val_main_call0_v0, val_main_call0_cst,
    refScore, proj, sumSq, scale]

end Result

section Mask
open Cert.On_nondegenerate

/-- The f32 pattern of infinity is the greatest extended real. -/
theorem ofBits_infinity : Ideal.ofBits .f32 0x7F800000#32 = ⊤ := by
  simp [Ideal.ofBits, Ideal.ieee]

/-- A fold of one-bit words by `and`, started at one, is one only if every word is. -/
theorem fold_andi_eq_one {ι : Type} [DecidableEq ι] (t : Finset ι) (f : ι → BitVec 1)
    (e : t.fold IntOp.andi 1#1 f = 1#1) : ∀ i ∈ t, f i = 1#1 := by
  induction t using Finset.cons_induction with
  | empty => exact fun i hi => absurd hi (Finset.notMem_empty i)
  | cons j t hj ih =>
    rw [Finset.fold_cons] at e
    obtain ⟨h1, h2⟩ : f j = 1#1 ∧ t.fold IntOp.andi 1#1 f = 1#1 := by
      revert e; generalize t.fold IntOp.andi 1#1 f = y; generalize f j = x; revert x y; decide
    intro i hi
    rcases Finset.mem_cons.mp hi with rfl | hi
    · exact h1
    · exact ih h2 i hi

/-- Where the mask is set the key row is nondegenerate. -/
theorem nondegenerate_of_mask (q : FVec Ideal S16x32x1x128 .f32) (k : FVec Ideal S16x8x4096x128 .f32)
    (p : FVec Ideal S128x256 .f32) (b : Fin 16) (h : Fin 32) (r : Fin 4096)
    (e : Cert.On_nondegenerate.fn (F := Ideal) q k p (ix4 b h r 0) = 1#1) :
    Nondegenerate (fun d => k (ix4 b ⟨h.val / 4, by omega⟩ r d)) (fun d s => p (ix2 d s)) := by
  have split : ∀ x y z : BitVec 1, IntOp.andi x (IntOp.ori y z) = 1#1 → x = 1#1 ∧ (y = 1#1 ∨ z = 1#1) := by decide
  have read : ∀ a : Bool, BitVec.ofBool a = 1#1 → a = true := by decide
  pointwise [Cert.On_nondegenerate.fn] at e
  obtain ⟨hfin, hdeg⟩ := split _ _ _ e
  rw [ofBits_infinity] at hfin
  refine ⟨of_decide_eq_true (read _ hfin), hdeg.imp (fun hz => of_decide_eq_true (read _ hz)) fun hall s => ?_⟩
  exact of_decide_eq_true (read _ (fold_andi_eq_one _ _ hall s (Finset.mem_univ s)))

end Mask

end Cert.Sketch

end
-- ==== Proof.lean ====
/- The claims assembled. The kernel's form of a score and the reference's agree at a nondegenerate key row (Proof/Score.lean);
   the kernel's result is the one (Proof/Tile.lean, Proof/Block.lean, Proof/Array.lean), the reference's the other, and the
   mask selects nondegenerate key rows only (Proof/Reference.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_nondegenerate
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

/-- The reference has no semaphore, so its run is all there is to show. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem preserves : Cert.preserves_Kernel_KernelIdeal := IdealRules.sign_bit.statement Cert.KernelIdeal.S512x256 .bf16

section Kernel
open Cert.KernelIdeal Cert.KernelIdeal.Gen

/-- The kernel's run: its result as the lines after the grid leave it, its arguments unchanged. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = Pipeline.afterTail₀ cfgs (dats m) 0 (V0 m) [hostOps1] c main_v2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).2 main_v2 (Pipeline.mem_restRefs_of main_v2 (by decide) (by decide)), h.2 c⟩)
    (θ_run_and (run_main m ρ) (unchanged m ρ))

end Kernel

/-- Where the mask is set, the kernel's result is the reference's. -/
theorem algebraic : Cert.algebraic_KernelIdeal_ReferenceIdeal_on_nondegenerate := by
  intro m g m' g' _ hargs
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v2, ?_, ?_⟩
  · exact (θ_run Cert.KernelIdeal.defs _ _).mono (fun r h c => ⟨fun i _ => congrFun (h c).1 i, (h c).2⟩) (run_kernel m g)
  · refine (θ_run Cert.ReferenceIdeal.defs _ _).mono (fun r h c => ⟨fun i hi => ?_, (h c).2⟩) (Cert.ReferenceIdeal.Value.run m' g')
    obtain ⟨b, n, k, z, rfl⟩ : ∃ b n k z, i = ix4 b n k z := ⟨i 0, i 1, i 2, i 3, eq_ix4 i⟩
    obtain rfl : z = 0 := Subsingleton.elim _ _
    refine (congrFun (h c).1 _).trans ?_
    rw [Cert.ReferenceIdeal.Read.val_main_v11_eq, (hargs c).1, (hargs c).2.1, (hargs c).2.2]
    refine (Cert.Sketch.reference_apply _ _ _ b n k).trans ?_
    refine Eq.trans ?_ (Cert.Sketch.result_apply m c b n k).symm
    exact (Cert.Sketch.kernelScore_eq_refScore _ _ _ (Cert.Sketch.nondegenerate_of_mask _ _ _ b n k hi)).symm

theorem claim : Cert.Claim :=
  ⟨Cert.Kernel.Gen.facts, Cert.KernelIdeal.Gen.facts, Cert.ReferenceIdeal.Gen.facts, Cert.On_nondegenerate.Gen.facts,
    frame_kernel, frame_kernelIdeal, frame_referenceIdeal, preserves, algebraic⟩

end Cert.Proof

end
